-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x2048 : Shape := ⟨3, ![4, 1024, 2048]⟩
abbrev S4x1024x1 : Shape := ⟨3, ![4, 1024, 1]⟩
abbrev S2048x3072 : Shape := ⟨2, ![2048, 3072]⟩
abbrev S3072 : Shape := ⟨1, ![3072]⟩
abbrev S4x1024x3072 : Shape := ⟨3, ![4, 1024, 3072]⟩
abbrev S4096x2048 : Shape := ⟨2, ![4096, 2048]⟩
abbrev S32x128 : Shape := ⟨2, ![32, 128]⟩
abbrev S1x3072 : Shape := ⟨2, ![1, 3072]⟩
abbrev S4096x3072 : Shape := ⟨2, ![4096, 3072]⟩
abbrev S512x2048 : Shape := ⟨2, ![512, 2048]⟩
abbrev S512x3072 : Shape := ⟨2, ![512, 3072]⟩
abbrev S4x128 : Shape := ⟨2, ![4, 128]⟩
abbrev S128x4 : Shape := ⟨2, ![128, 4]⟩
abbrev S128x3072 : Shape := ⟨2, ![128, 3072]⟩
abbrev S128x1 : Shape := ⟨2, ![128, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x1024x2048, .fp8e4m3⟩
  | .hbm, ⟨1, _⟩ => ⟨S4x1024x1, .f32⟩
  | .hbm, ⟨2, _⟩ => ⟨S2048x3072, .fp8e4m3⟩
  | .hbm, ⟨3, _⟩ => ⟨S3072, .f32⟩
  | .hbm, ⟨4, _⟩ => ⟨S4x1024x3072, .bf16⟩
  | .hbm, ⟨5, _⟩ => ⟨S4096x2048, .fp8e4m3⟩
  | .hbm, ⟨6, _⟩ => ⟨S32x128, .f32⟩
  | .hbm, ⟨7, _⟩ => ⟨S1x3072, .f32⟩
  | .hbm, ⟨8, _⟩ => ⟨S4096x3072, .bf16⟩
  | .hbm, ⟨9, _⟩ => ⟨S4096x3072, .bf16⟩
  | .hbm, ⟨10, _⟩ => ⟨S4x1024x3072, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S32x128, .f32⟩
  | .local _ .vmem, ⟨3, _⟩ => ⟨S2048x3072, .fp8e4m3⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | _, _ => ⟨S4x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c4_i32 : BitVec 32 := 4#32
  let v4 : BitVec 32 := Scalar.muli arg0 c4_i32
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x1024x2048 : Shape := ⟨3, ![4, 1024, 2048]⟩
abbrev S4x1024x1 : Shape := ⟨3, ![4, 1024, 1]⟩
abbrev S2048x3072 : Shape := ⟨2, ![2048, 3072]⟩
abbrev S3072 : Shape := ⟨1, ![3072]⟩
abbrev S4x1024x3072 : Shape := ⟨3, ![4, 1024, 3072]⟩
abbrev S1x1x3072 : Shape := ⟨3, ![1, 1, 3072]⟩

abbrev nBuf : Space → Nat
  | .hbm => 6
  | .vmem => 6
  | .smem => 0
  | _ => 0

abbrev bufTy : (tb : Table) → Fin (tcTables nBuf tb) → BufTy
  | .hbm, ⟨0, _⟩ => ⟨S4x1024x2048, .fp8e4m3⟩
  | .hbm, ⟨1, _⟩ => ⟨S4x1024x1, .f32⟩
  | .hbm, ⟨2, _⟩ => ⟨S2048x3072, .fp8e4m3⟩
  | .hbm, ⟨3, _⟩ => ⟨S3072, .f32⟩
  | .hbm, ⟨4, _⟩ => ⟨S4x1024x3072, .bf16⟩
  | .hbm, ⟨5, _⟩ => ⟨S4x1024x3072, .bf16⟩
  | .local _ .vmem, ⟨0, _⟩ => ⟨S4x1024x2048, .fp8e4m3⟩
  | .local _ .vmem, ⟨1, _⟩ => ⟨S4x1024x1, .f32⟩
  | .local _ .vmem, ⟨2, _⟩ => ⟨S2048x3072, .fp8e4m3⟩
  | .local _ .vmem, ⟨3, _⟩ => ⟨S3072, .f32⟩
  | .local _ .vmem, ⟨4, _⟩ => ⟨S4x1024x3072, .bf16⟩
  | .local _ .vmem, ⟨5, _⟩ => ⟨S4x1024x3072, .bf16⟩
  | _, _ => ⟨S4x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  The value of one block: what the body leaves in the output's staging buffer at a grid point.
-/
module

public import proofs.«01_k».proof.Proof.Gen.KernelIdeal.Frame
public import Idealize.ShloMosaic.Lib.Pipeline.Value
public import Idealize.ShloMosaic.Lib.Pointwise
public import Idealize.ShloMosaic.Lib.Tactic

@[expose] public section

noncomputable section

namespace Cert.KernelIdeal.Hand

open Cert.KernelIdeal Cert.KernelIdeal.Gen Idealize.ShloMosaic Idealize.ShloMosaic.TcCoe Idealize.SL.Sem

/-- The zero offsets of a whole-buffer access. -/
theorem hz : (![0, 0] : Fin 2 → Nat) = fun _ => 0 := funext fun a => by fin_cases a <;> rfl

/-- The first row of the scale block that point `i` loads: four rows per point. -/
theorem off1_eq (i : grid0.Coords) : k0_off1 i = ![4 * (i 0).val, 0] := by
  revert i; decide +kernel

/-- The scale row of row `p` of point `i`'s block: four scale rows of 128 lanes per point. -/
def scaleRow (i : grid0.Coords) (p : Fin 512) : Fin 32 :=
  ⟨4 * (i 0).val + p.val / 128, by have := (i 0).isLt; change _ < 8 at this; omega⟩

/-- The lane of row `p` in its scale row. -/
def scaleLane (p : Fin 512) : Fin 128 := ⟨p.val % 128, by omega⟩

/-- One element of the output block: the row of `x` against the column of `w`, times the row's scale, times the column's
    scale, plus the residual. -/
def blockVal (i : grid0.Coords) (x0 : Vec Ideal S512x2048 .fp8e4m3) (x1 : Vec Ideal S32x128 .f32) (x2 : Vec Ideal S2048x3072 .fp8e4m3)
    (x3 : Vec Ideal S1x3072 .f32) (x4 : Vec Ideal S512x3072 .bf16) (p : Fin 512) (n : Fin 3072) : EReal :=
  (∑ k : Fin 2048, (x0 (ix2 p k) : EReal) * x2 (ix2 k n)) * x1 (ix2 (scaleRow i p) (scaleLane p)) * x3 (ix2 0 n) + x4 (ix2 p n)

/-- What the body stores for the 128 rows from row `o`, scaled by column `g` of the transposed scale block `s`: the four
    stores of the body are this at `(o, g) = (0, 0), (128, 1), (256, 2), (384, 3)`. -/
def rows (o g : Nat) (hs : S512x3072.Slices ![o, 0] S128x3072) (hg : S128x4.Slices ![0, g] S128x1)
    (acc : FVec Ideal S512x3072 .f32) (s : FVec Ideal S128x4 .f32) (ws : Vec Ideal S1x3072 .f32) (res : Vec Ideal S128x3072 .bf16) :
    FVec Ideal S128x3072 .bf16 :=
  truncf .bf16 (addf (mulf (mulf (extractStridedSlice S128x3072 ![o, 0] acc hs)
      (broadcastTo S128x3072 (extractStridedSlice S128x1 ![0, g] s hg) broadcasts_S128x1_S128x3072))
      (broadcastTo S128x3072 (shapeCast S1x3072 ws shapeCasts_S1x3072_S1x3072) broadcasts_S1x3072_S128x3072))
    (extf .f32 (shapeCast S128x3072 res shapeCasts_S128x3072_S128x3072) bitsLt_bf16_f32)) bitsLt_bf16_f32

/-- The product of the two fp8 blocks, read at an element. -/
theorem acc_apply (x0 : Vec Ideal S512x2048 .fp8e4m3) (x2 : Vec Ideal S2048x3072 .fp8e4m3) (p : Fin 512) (n : Fin 3072) :
    k0_pay3 x0 x2 (ix2 p n) = ∑ k : Fin 2048, (x0 (ix2 p k) : EReal) * x2 (ix2 k n) := by
  pointwise [k0_pay3]

/-- The scale block that point `i` loads, transposed, read at an element. -/
theorem scale_apply (i : grid0.Coords) (x1 : Vec Ideal S32x128 .f32) (inb) (l : Fin 128) (g : Fin 4) :
    k0_pay4 (View.ld x1 (Rect.unit (s := S32x128) (k0_off1 i) S4x128.size inb)) (ix2 l g)
      = x1 (ix2 (scaleRow i ⟨128 * g.val + l.val, by omega⟩) (scaleLane ⟨128 * g.val + l.val, by omega⟩)) := by
  pointwise [k0_pay4]
  refine congrArg x1 ?_
  have h0 : k0_off1 i 0 = 4 * (i 0).val := congrFun (off1_eq i) 0
  have h1 : k0_off1 i 1 = 0 := congrFun (off1_eq i) 1
  have hg := g.isLt
  have hl := l.isLt
  refine congrArg₂ ix2 (Fin.ext ?_) (Fin.ext ?_)
  · show k0_off1 i 0 + g.val = 4 * (i 0).val + (128 * g.val + l.val) / 128
    omega
  · show k0_off1 i 1 + l.val = (128 * g.val + l.val) % 128
    omega

/-- Each store's rows agree with `blockVal` at the place of the block they go to. -/
theorem rows_apply (o : Nat) (g : Fin 4) (ho : o = 128 * g.val) (hs : S512x3072.Slices ![o, 0] S128x3072) (hg : S128x4.Slices ![0, g.val] S128x1)
    (i : grid0.Coords) (x0 : Vec Ideal S512x2048 .fp8e4m3) (x1 : Vec Ideal S32x128 .f32) (x2 : Vec Ideal S2048x3072 .fp8e4m3)
    (x3 : Vec Ideal S1x3072 .f32) (x4 : Vec Ideal S512x3072 .bf16) (inb) (inb') (x : S128x3072.Idx) :
    rows o g.val hs hg (k0_pay3 x0 x2) (k0_pay4 (View.ld x1 (Rect.unit (s := S32x128) (k0_off1 i) S4x128.size inb))) x3
        (View.ld x4 (Rect.unit (s := S512x3072) ![o, 0] S128x3072.size inb')) x
      = blockVal i x0 x1 x2 x3 x4 ((Rect.unit (s := S512x3072) ![o, 0] S128x3072.size inb').emb x 0)
          ((Rect.unit (s := S512x3072) ![o, 0] S128x3072.size inb').emb x 1) := by
  subst ho
  obtain ⟨l, n, rfl⟩ : ∃ (l : Fin 128) (n : Fin 3072), x = ix2 l n := ⟨x 0, x 1, eq_ix2 x⟩
  generalize hacc : k0_pay3 x0 x2 = acc
  generalize hsc : k0_pay4 (View.ld x1 (Rect.unit (s := S32x128) (k0_off1 i) S4x128.size inb)) = sc
  pointwise [rows]
  have hl := l.isLt
  have hg' := g.isLt
  have e0 : (Rect.unit (s := S512x3072) ![128 * g.val, 0] S128x3072.size inb').emb (ix2 l n) 0 = (⟨128 * g.val + l.val, by omega⟩ : Fin 512) :=
    Fin.ext (by show 128 * g.val + 1 * l.val = 128 * g.val + l.val; omega)
  have e1 : (Rect.unit (s := S512x3072) ![128 * g.val, 0] S128x3072.size inb').emb (ix2 l n) 1 = n :=
    Fin.ext (by show 0 + 1 * n.val = n.val; omega)
  rw [e0, e1]
  subst hacc hsc
  rw [scale_apply, acc_apply]
  rfl

/-- The body's output block at point `i`, read at an element: its four stores cover the block, and each agrees with `blockVal`. -/
theorem out_apply (c : Dev nD) (i : grid0.Coords) (arg1 : Memref sig .tc .vmem S512x2048 .fp8e4m3) (harg1 : arg1.IsWhole)
    (arg2 : Memref sig .tc .vmem S32x128 .f32) (harg2 : arg2.IsWhole) (arg3 : Memref sig .tc .vmem S2048x3072 .fp8e4m3) (harg3 : arg3.IsWhole)
    (arg4 : Memref sig .tc .vmem S1x3072 .f32) (harg4 : arg4.IsWhole) (arg5 : Memref sig .tc .vmem S512x3072 .bf16) (harg5 : arg5.IsWhole)
    (arg6 : Memref sig .tc .vmem S512x3072 .bf16) (harg6 : arg6.IsWhole)
    (x0 : Vec Ideal S512x2048 .fp8e4m3) (x1 : Vec Ideal S32x128 .f32) (x2 : Vec Ideal S2048x3072 .fp8e4m3)
    (x3 : Vec Ideal S1x3072 .f32) (x4 : Vec Ideal S512x3072 .bf16) (j : S512x3072.Idx) :
    out0_A_5 c i arg1 harg1 arg2 harg2 arg3 harg3 arg4 harg4 arg5 harg5 arg6 harg6 x0 x1 x2 x3 x4 j
      = blockVal i x0 x1 x2 x3 x4 (j 0) (j 1) := by
  unfold out0_A_5
  rw [View.read_writes_eq_canon _ _ _ (cover0_A_5 c i arg1 harg1 arg2 harg2 arg3 harg3 arg4 harg4 arg5 harg5 arg6 harg6 x0 x1 x2 x3 x4)]
  refine View.canon_apply_of_pieces (fun j : S512x3072.Idx => blockVal i x0 x1 x2 x3 x4 (j 0) (j 1)) _ ?_ j
    (cover0_A_5 c i arg1 harg1 arg2 harg2 arg3 harg3 arg4 harg4 arg5 harg5 arg6 harg6 x0 x1 x2 x3 x4 j)
  unfold kernelRun0_A
  dsimp only
  sl_unfold_words
  simp only [List.forall_mem_cons, View.readAt_eq_ld, harg1.read_unread, harg2.read_unread, harg3.read_unread, harg4.read_unread,
    harg5.read_unread, View.ld_unit_zero (S := S512x2048) hz, View.ld_unit_zero (S := S2048x3072) hz, View.ld_unit_zero (S := S1x3072) hz]
  exact ⟨fun x => rows_apply 384 3 rfl slices_S512x3072_o384_0_S128x3072 slices_S128x4_o0_3_S128x1 i x0 x1 x2 x3 x4 _ _ x,
    fun x => rows_apply 256 2 rfl slices_S512x3072_o256_0_S128x3072 slices_S128x4_o0_2_S128x1 i x0 x1 x2 x3 x4 _ _ x,
    fun x => rows_apply 128 1 rfl slices_S512x3072_o128_0_S128x3072 slices_S128x4_o0_1_S128x1 i x0 x1 x2 x3 x4 _ _ x,
    fun x => rows_apply 0 0 rfl slices_S512x3072_o0_0_S128x3072 slices_S128x4_o0_0_S128x1 i x0 x1 x2 x3 x4 _ _ x,
    fun _ h => absurd h List.not_mem_nil⟩

end Cert.KernelIdeal.Hand
-- ==== Proof.Array.lean ====
/-
  The value of the whole run: every grid point writes its 512 rows of one function of the five flat arrays, the rows of the
  eight points fill the output array, and the program's result is that array reshaped to three axes.
-/
module

public import proofs.«01_k».proof.Proof.Block
public import Idealize.ShloMosaic.Lib.StableHlo.Run

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output array of the grid as one function of its five operand arrays: row `r` of `x` against column `n` of `w`, times the
    row's scale (row `r` is lane `r % 128` of scale row `r / 128`), times the column's scale, plus the residual. -/
def flatVal (x : Vec Ideal S4096x2048 .fp8e4m3) (xs : Vec Ideal S32x128 .f32) (w : Vec Ideal S2048x3072 .fp8e4m3)
    (ws : Vec Ideal S1x3072 .f32) (res : Vec Ideal S4096x3072 .bf16) (r : Fin 4096) (n : Fin 3072) : EReal :=
  (∑ k : Fin 2048, (x (ix2 r k) : EReal) * w (ix2 k n))
      * xs (ix2 (⟨r.val / 128, by omega⟩ : Fin 32) (⟨r.val % 128, by omega⟩ : Fin 128)) * ws (ix2 0 n) + res (ix2 r n)

/-! ## Where each window's block lies -/

/-- The block indices of the six windows at point `t`: the two row-blocked inputs and the output are at block row `t`, the others at
    the one block there is; and the point's grid coordinate is `t` itself. -/
theorem index_eq : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (grid0.coords t 0).val = t.val := by decide +kernel

/-- Row `p` of point `t`'s block, as a row of the whole array. -/
def row (t : Fin cfg0.N) (p : Fin 512) : Fin 4096 := ⟨512 * t.val + p.val, by have := t.isLt; change _ < 8 at this; omega⟩

/-- The first window reads its 512 rows of `x`. -/
theorem blk0_apply (c : Dev nD) (t : Fin cfg0.N) (p : Fin 512) (k : Fin 2048) :
    iblk m c 0 t (ix2 p k) = V m c main_v0 (ix2 (row t p) k) := by
  obtain ⟨⟨h0, h1⟩, -⟩ := index_eq t
  refine congrArg (V m c main_v0) (funext fun a => Fin.ext ?_)
  match a with
  | ⟨0, _⟩ => show win0_0.index t 0 * 512 + 1 * p.val = 512 * t.val + p.val; omega
  | ⟨1, _⟩ => show win0_0.index t 1 * 2048 + 1 * k.val = k.val; omega

/-- The second reads all of the row scales. -/
theorem blk1_eq (c : Dev nD) (t : Fin cfg0.N) : iblk m c 1 t = V m c main_v1 := by
  obtain ⟨-, ⟨h0, h1⟩, -⟩ := index_eq t
  funext j
  refine congrArg (V m c main_v1) (funext fun a => Fin.ext ?_)
  match a with
  | ⟨0, _⟩ => show win0_1.index t 0 * 32 + 1 * (j 0).val = (j 0).val; omega
  | ⟨1, _⟩ => show win0_1.index t 1 * 128 + 1 * (j 1).val = (j 1).val; omega

/-- The third reads all of `w`. -/
theorem blk2_eq (c : Dev nD) (t : Fin cfg0.N) : iblk m c 2 t = V m c main_arg2 := by
  obtain ⟨-, -, ⟨h0, h1⟩, -⟩ := index_eq t
  funext j
  refine congrArg (V m c main_arg2) (funext fun a => Fin.ext ?_)
  match a with
  | ⟨0, _⟩ => show win0_2.index t 0 * 2048 + 1 * (j 0).val = (j 0).val; omega
  | ⟨1, _⟩ => show win0_2.index t 1 * 3072 + 1 * (j 1).val = (j 1).val; omega

/-- The fourth reads all of the column scales. -/
theorem blk3_eq (c : Dev nD) (t : Fin cfg0.N) : iblk m c 3 t = V m c main_v2 := by
  obtain ⟨-, -, -, ⟨h0, h1⟩, -⟩ := index_eq t
  funext j
  refine congrArg (V m c main_v2) (funext fun a => Fin.ext ?_)
  match a with
  | ⟨0, _⟩ => show win0_3.index t 0 * 1 + 1 * (j 0).val = (j 0).val; omega
  | ⟨1, _⟩ => show win0_3.index t 1 * 3072 + 1 * (j 1).val = (j 1).val; omega

/-- The fifth reads its 512 rows of the residual. -/
theorem blk4_apply (c : Dev nD) (t : Fin cfg0.N) (p : Fin 512) (n : Fin 3072) :
    iblk m c 4 t (ix2 p n) = V m c main_v3 (ix2 (row t p) n) := by
  obtain ⟨-, -, -, -, ⟨h0, h1⟩, -⟩ := index_eq t
  refine congrArg (V m c main_v3) (funext fun a => Fin.ext ?_)
  match a with
  | ⟨0, _⟩ => show win0_4.index t 0 * 512 + 1 * p.val = 512 * t.val + p.val; omega
  | ⟨1, _⟩ => show win0_4.index t 1 * 3072 + 1 * n.val = n.val; omega

/-- The output window's block is its 512 rows of the output. -/
theorem emb5 (t : Fin cfg0.N) (p : Fin 512) (n : Fin 3072) : ((cfg0.win 5).blk t).view.emb (ix2 p n) = ix2 (row t p) n := by
  obtain ⟨-, -, -, -, -, ⟨h0, h1⟩, -⟩ := index_eq t
  refine funext fun a => Fin.ext ?_
  match a with
  | ⟨0, _⟩ => show win0_5.index t 0 * 512 + 1 * p.val = 512 * t.val + p.val; omega
  | ⟨1, _⟩ => show win0_5.index t 1 * 3072 + 1 * n.val = n.val; omega

/-! ## The output array -/

/-- The output array of the grid, from the operand arrays as the grid finds them. -/
def G (c : Dev nD) : Vec Ideal S4096x3072 .bf16 :=
  fun j => flatVal (V m c main_v0) (V m c main_v1) (V m c main_arg2) (V m c main_v2) (V m c main_v3) (j 0) (j 1)

/-- A block's element is the array's element at the block's place: row `p` of point `t` is row `512 * t + p`, whose scale row is
    `4 * t + p / 128` and whose lane is `p % 128`. -/
theorem block_eq_flat (c : Dev nD) (t : Fin cfg0.N) (p : Fin 512) (n : Fin 3072) :
    blockVal (grid0.coords t) (iblk m c 0 t) (iblk m c 1 t) (iblk m c 2 t) (iblk m c 3 t) (iblk m c 4 t) p n
      = G m c (ix2 (row t p) n) := by
  have hc : (grid0.coords t 0).val = t.val := (index_eq t).2.2.2.2.2.2
  have hr : scaleRow (grid0.coords t) p = (⟨(row t p).val / 128, by have := (row t p).isLt; omega⟩ : Fin 32) :=
    Fin.ext (by show 4 * (grid0.coords t 0).val + p.val / 128 = (512 * t.val + p.val) / 128; omega)
  have hl : scaleLane p = (⟨(row t p).val % 128, by omega⟩ : Fin 128) :=
    Fin.ext (by show p.val % 128 = (512 * t.val + p.val) % 128; omega)
  show _ = flatVal (V m c main_v0) (V m c main_v1) (V m c main_arg2) (V m c main_v2) (V m c main_v3) (row t p) n
  unfold blockVal flatVal
  rw [hr, hl, blk1_eq, blk2_eq, blk3_eq]
  simp only [blk0_apply, blk4_apply]

/-- What point `t` writes back is its block of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  funext j
  obtain ⟨p, n, rfl⟩ : ∃ (p : Fin 512) (n : Fin 3072), j = ix2 p n := ⟨j 0, j 1, eq_ix2 j⟩
  show outsAt0 m c t (ix2 p n) = G m c (((cfg0.win 5).blk t).view.emb (ix2 p n))
  rw [emb5, ← block_eq_flat]
  unfold outsAt0
  exact out_apply c (grid0.coords t) _ _ _ _ _ _ _ _ _ _ _ _ _ _ _ _ _ (ix2 p n)

/-- Every row of the output array is in some point's block. -/
theorem cover (i : S4096x3072.Idx) : ∃ t : Fin cfg0.N, (cfg0.win 5).flush t = true ∧ i ∈ ((cfg0.win 5).blk t).view.set := by
  obtain ⟨r, n, rfl⟩ : ∃ (r : Fin 4096) (n : Fin 3072), i = ix2 r n := ⟨i 0, i 1, eq_ix2 i⟩
  have hN : cfg0.N = 8 := N_0
  have hr := r.isLt
  have ht : r.val / 512 < cfg0.N := by omega
  refine ⟨⟨r.val / 512, ht⟩, flush0_5 _, ?_⟩
  have h := ((cfg0.win 5).blk ⟨r.val / 512, ht⟩).view.emb_mem_set (ix2 (⟨r.val % 512, by omega⟩ : Fin 512) n)
  rw [emb5] at h
  have e : row ⟨r.val / 512, ht⟩ (⟨r.val % 512, by omega⟩ : Fin 512) = r :=
    Fin.ext (by show 512 * (r.val / 512) + r.val % 512 = r.val; omega)
  rwa [e] at h

/-- So the output array ends holding `G`. -/
theorem final (c : Dev nD) : (dats m 0 c).arrAt 5 cfg0.N = G m c :=
  (dats m 0 c).arrAt_eq_of_cover 5 (G m c) (fun t _ => flushed_eq m c t) cover

/-! ## The host's reshapes around the grid -/

/-- The grid finds each operand array as the host's reshape of the argument it comes from. -/
theorem V_v0 (c : Dev nD) : V m c main_v0 = shapeCast S4096x2048 (m ((c : Thread nD τ).loc main_arg0)) shapeCasts_S4x1024x2048_S4096x2048 := by
  unfold V V0 hostOps0
  simp only [List.flatten_cons, List.flatten_nil, List.append_nil]
  after_results
  rfl

theorem V_v1 (c : Dev nD) : V m c main_v1 = shapeCast S32x128 (m ((c : Thread nD τ).loc main_arg1)) shapeCasts_S4x1024x1_S32x128 := by
  unfold V V0 hostOps0
  simp only [List.flatten_cons, List.flatten_nil, List.append_nil]
  after_results
  rfl

theorem V_v2 (c : Dev nD) : V m c main_v2 = shapeCast S1x3072 (m ((c : Thread nD τ).loc main_arg3)) shapeCasts_S3072_S1x3072 := by
  unfold V V0 hostOps0
  simp only [List.flatten_cons, List.flatten_nil, List.append_nil]
  after_results
  rfl

theorem V_v3 (c : Dev nD) : V m c main_v3 = shapeCast S4096x3072 (m ((c : Thread nD τ).loc main_arg4)) shapeCasts_S4x1024x3072_S4096x3072 := by
  unfold V V0 hostOps0
  simp only [List.flatten_cons, List.flatten_nil, List.append_nil]
  after_results
  rfl

/-- The program's result: `G` reshaped to three axes. -/
theorem tail_v5 (c : Dev nD) : Pipeline.afterTail₀ cfgs (dats m) 0 (V0 m) [hostOps1] c main_v5
    = shapeCast S4x1024x3072 (G m c) shapeCasts_S4096x3072_S4x1024x3072 := by
  have h := Pipeline.withArrays_arr spec0 launch0.win.arr_inj c (V0 m c) (fun w => (dats m 0 c).arrAt w cfg0.N) 5
  unfold Pipeline.afterTail₀ hostOps1
  simp only [List.flatten_cons, List.flatten_nil, List.append_nil]
  rw [StableHlo.after_cons, StableHlo.after_nil, StableHlo.reshape_result]
  exact congrArg (fun X : Vec Ideal S4096x3072 .bf16 => shapeCast S4x1024x3072 X shapeCasts_S4096x3072_S4x1024x3072) (h.trans (final m c))

/-- The run: the result is `G` reshaped, the arguments unchanged. -/
theorem run : θ_run defs (onTc (τ := τ) (main (F := Ideal))) ⟨m, fun _ => 0, ρ⟩ fun r => ∀ c : Dev nD,
      r.2.mem ((c : Thread nD τ).loc main_v5) = shapeCast S4x1024x3072 (G m c) shapeCasts_S4096x3072_S4x1024x3072
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand
-- ==== Proof.Reference.lean ====
/-
  The reference's result at one element.
-/
module

public import proofs.«01_k».proof.Proof.Gen.ReferenceIdeal.Value
public import Idealize.ShloMosaic.Lib.Pointwise

@[expose] public section

noncomputable section

namespace Cert.ReferenceIdeal.Hand

open Cert.ReferenceIdeal Cert.ReferenceIdeal.Gen Idealize.ShloMosaic

/-- Element `(b, s, n)` of the reference: row `(b, s)` of `x` against column `n` of `w`, times the row's scale, times the column's
    scale, plus the residual. -/
theorem value_apply (x : Vec Ideal S4x1024x2048 .fp8e4m3) (xs : Vec Ideal S4x1024x1 .f32) (w : Vec Ideal S2048x3072 .fp8e4m3)
    (ws : Vec Ideal S3072 .f32) (res : Vec Ideal S4x1024x3072 .bf16) (b : Fin 4) (s : Fin 1024) (n : Fin 3072) :
    Value.G5 x xs w ws res (ix3 b s n)
      = (∑ k : Fin 2048, (x (ix3 b s k) : EReal) * w (ix2 k n)) * xs (ix3 b s 0) * ws (ix1 n) + res (ix3 b s n) := by
  unfold Value.G5
  pointwise [k0_pay1]

end Cert.ReferenceIdeal.Hand
-- ==== Proof.Equation.lean ====
/-
  The two results are the same array: row `(b, s)` of the three-axis arrays is row `1024 * b + s` of the flat ones, and the scale of
  that row is found at the same place of the flattened scales.
-/
module

public import proofs.«01_k».proof.Proof.Array
public import proofs.«01_k».proof.Proof.Reference

@[expose] public section

noncomputable section

namespace Cert.Equation

open Cert.KernelIdeal Cert.KernelIdeal.Gen Cert.KernelIdeal.Hand Idealize.ShloMosaic Idealize.ShloMosaic.TcCoe Idealize.SL.Sem

/-! ## A flattened array at the row of `(b, s)` -/

/-- A flattened three-axis array read at flat row `1024 * b + s`. -/
theorem flat_apply {α : Type} {N : Nat} (x : (⟨3, ![4, 1024, N]⟩ : Shape).Idx → α)
    (h : (⟨3, ![4, 1024, N]⟩ : Shape).ShapeCasts ⟨2, ![4096, N]⟩) (b : Fin 4) (s : Fin 1024) (hr) (n : Fin N) :
    shapeCast ⟨2, ![4096, N]⟩ x h (ix2 (⟨b.val * 1024 + s.val, hr⟩ : Fin 4096) n) = x (ix3 b s n) :=
  congrArg x (Shape.reshapeEquiv_eq_of_vals h _ (ix3 b s n) _ _ (rowMajor_val3 (d := ![4, 1024, N]) (ix3 b s n) (1024 * N) N rfl rfl)
    (rowMajor_val2 (d := ![4096, N]) (ix2 (⟨b.val * 1024 + s.val, hr⟩ : Fin 4096) n) N rfl)
    (by show b.val * (1024 * N) + s.val * N + n.val = (b.val * 1024 + s.val) * N + n.val; rw [Nat.add_mul, Nat.mul_assoc]))

/-- The flattened row scales read at scale row `(1024 * b + s) / 128`, lane `(1024 * b + s) % 128`. -/
theorem scale_apply {α : Type} (xs : S4x1024x1.Idx → α) (h : S4x1024x1.ShapeCasts S32x128) (b : Fin 4) (s : Fin 1024) (hq) (hr) :
    shapeCast S32x128 xs h (ix2 (⟨(b.val * 1024 + s.val) / 128, hq⟩ : Fin 32) (⟨(b.val * 1024 + s.val) % 128, hr⟩ : Fin 128))
      = xs (ix3 b s 0) :=
  congrArg xs (Shape.reshapeEquiv_eq_of_vals h _ (ix3 b s 0) _ _ (rowMajor_val3 (d := ![4, 1024, 1]) (ix3 b s 0) 1024 1 rfl rfl)
    (rowMajor_val2 (d := ![32, 128]) (ix2 (⟨(b.val * 1024 + s.val) / 128, hq⟩ : Fin 32) (⟨(b.val * 1024 + s.val) % 128, hr⟩ : Fin 128)) 128 rfl)
    (by show b.val * 1024 + s.val * 1 + 0 = (b.val * 1024 + s.val) / 128 * 128 + (b.val * 1024 + s.val) % 128; omega))

/-- The column scales with a unit axis in front. -/
theorem col_apply {α : Type} (ws : S3072.Idx → α) (h : S3072.ShapeCasts S1x3072) (n : Fin 3072) :
    shapeCast S1x3072 ws h (ix2 0 n) = ws (ix1 n) := by
  pointwise

/-! ## The equation -/

/-- The kernel's result, the flat output reshaped, is the reference's function of the same five arguments. -/
theorem result_eq (m : (ℓ : Loc nD τ sig) → Buf (Elt Ideal) ℓ) (c : Dev nD) :
    shapeCast S4x1024x3072 (G m c) shapeCasts_S4096x3072_S4x1024x3072
      = Cert.ReferenceIdeal.Value.G5 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext j
  obtain ⟨b, s, n, rfl⟩ : ∃ (b : Fin 4) (s : Fin 1024) (n : Fin 3072), j = ix3 b s n := ⟨j 0, j 1, j 2, eq_ix3 j⟩
  rw [Cert.ReferenceIdeal.Hand.value_apply]
  pointwise [G, flatVal]
  rw [V_v0, V_v1, V_v2, V_v3, V_main_arg2]
  rw [scale_apply, col_apply, flat_apply (N := 3072)]
  simp only [flat_apply (N := 2048)]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- Kernel and reference, run on equal arguments, end with equal results and their arguments unchanged. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => shapeCast Cert.KernelIdeal.S4x1024x3072 (Cert.KernelIdeal.Hand.G m c) Cert.KernelIdeal.Gen.shapeCasts_S4096x3072_S4x1024x3072,
    Cert.KernelIdeal.Hand.run m g,
    (θ_run _ _ _).mono (fun _ h c => ⟨by
      obtain ⟨e0, e1, e2, e3, e4⟩ := hargs c
      rw [(h c).1, e0, e1, e2, e3, e4]
      exact (Cert.Equation.result_eq m c).symm, (h c).2⟩) (Cert.ReferenceIdeal.Value.run m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
